-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "exp_scale" .f32 0x3E38AA3B#32 (((1 / 8) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S1x2048x1024 : Shape := ⟨3, ![1, 2048, 1024]⟩
abbrev S1024x1024 : Shape := ⟨2, ![1024, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S1x2048x1024 .f32) (main_arg1 : FVec F S1x2048x1024 .f32) (main_arg2 : FVec F S1x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S1x2048x1024 1 × IVec S1x2048x1024 1 × IVec S1024x1024 1 × IVec S1024 1 × IVec S1024x1024 1 × IVec S1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1024x1024 .f32 := Host.absf main_arg3
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg5
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg6
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Kernel.lean ====
abbrev S1x2048x1024 : Shape := ⟨3, ![1, 2048, 1024]⟩
abbrev S1024x1024 : Shape := ⟨2, ![1024, 1024]⟩
abbrev S1024 : Shape := ⟨1, ![1024]⟩
abbrev S2048x1024 : Shape := ⟨2, ![2048, 1024]⟩
abbrev S1x1024 : Shape := ⟨2, ![1, 1024]⟩
abbrev S512x1024 : Shape := ⟨2, ![512, 1024]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩

abbrev nBuf : Space → Nat
  | .hbm => 23
  | .vmem => 27
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S2048x1024, .bf16⟩
  | .hbm, ⟨18, _⟩ => ⟨S2048x1024, .bf16⟩
  | .hbm, ⟨19, _⟩ => ⟨S2048x1024, .bf16⟩
  | .hbm, ⟨20, _⟩ => ⟨S1x1024, .f32⟩
  | .hbm, ⟨21, _⟩ => ⟨S2048x1024, .f32⟩
  | .hbm, ⟨22, _⟩ => ⟨S1x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S2048x1024, .bf16⟩
  | .local _ .vmem, ⟨21, _⟩ => ⟨S2048x1024, .bf16⟩
  | .local _ .vmem, ⟨22, _⟩ => ⟨S1024x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "exp_scale" => some (((1 / 8) * (Real.log 2)⁻¹ : ℝ) : EReal)
  | _ => none
-- ==== ReferenceIdeal.lean ====
abbrev S1x2048x1024 : Shape := ⟨3, ![1, 2048, 1024]⟩
abbrev S1024x1024 : Shape := ⟨2, ![1024, 1024]⟩
abbrev S1024 : Shape := ⟨1, ![1024]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S1x16x64x2048 : Shape := ⟨4, ![1, 16, 64, 2048]⟩
abbrev S16x2048x64 : Shape := ⟨3, ![16, 2048, 64]⟩
abbrev S16x64x2048 : Shape := ⟨3, ![16, 64, 2048]⟩
abbrev S16x2048x2048 : Shape := ⟨3, ![16, 2048, 2048]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩

abbrev nBuf : Space → Nat
  | .hbm => 60
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1x2048x1024, .f32⟩
  | .hbm, ⟨12, _⟩ => ⟨S1x1x1024, .f32⟩
  | .hbm, ⟨13, _⟩ => ⟨S1x2048x1024, .f32⟩
  | .hbm, ⟨14, _⟩ => ⟨S1x2048x1024, .f32⟩
  | .hbm, ⟨15, _⟩ => ⟨S1x2048x16x64, .f32⟩
  | .hbm, ⟨16, _⟩ => ⟨S1x16x2048x64, .f32⟩
  | .hbm, ⟨17, _⟩ => ⟨S1x2048x1024, .f32⟩
  | .hbm, ⟨18, _⟩ => ⟨S1x1x1024, .f32⟩
  | .hbm, ⟨19, _⟩ => ⟨S1x2048x1024, .f32⟩
  | .hbm, ⟨20, _⟩ => ⟨S1x2048x1024, .f32⟩
  | .hbm, ⟨21, _⟩ => ⟨S1x2048x16x64, .f32⟩
  | .hbm, ⟨22, _⟩ => ⟨S1x16x64x2048, .f32⟩
  | .hbm, ⟨23, _⟩ => ⟨S1x2048x1024, .f32⟩
  | .hbm, ⟨24, _⟩ => ⟨S1x1x1024, .f32⟩
  | .hbm, ⟨25, _⟩ => ⟨S1x2048x1024, .f32⟩
  | .hbm, ⟨26, _⟩ => ⟨S1x2048x1024, .f32⟩
  | .hbm, ⟨27, _⟩ => ⟨S1x2048x16x64, .f32⟩
  | .hbm, ⟨28, _⟩ => ⟨S1x16x2048x64, .f32⟩
  | .hbm, ⟨29, _⟩ => ⟨S16x2048x64, .f32⟩
  | .hbm, ⟨30, _⟩ => ⟨S16x64x2048, .f32⟩
  | .hbm, ⟨31, _⟩ => ⟨S16x2048x2048, .f32⟩
  | .hbm, ⟨32, _⟩ => ⟨S1x16x2048x2048, .f32⟩
  | .hbm, ⟨33, _⟩ => ⟨S_, .f32⟩
  | .hbm, ⟨34, _⟩ => ⟨S1x16x2048x2048, .f32⟩
  | .hbm, ⟨35, _⟩ => ⟨S1x16x2048x2048, .f32⟩
  | .hbm, ⟨36, _⟩ => ⟨S_, .f32⟩
  | .hbm, ⟨37, _⟩ => ⟨S1x16x2048, .f32⟩
  | .hbm, ⟨38, _⟩ => ⟨S_, .f32⟩
  | .hbm, ⟨39, _⟩ => ⟨S1x16x2048, .f32⟩
  | .hbm, ⟨40, _⟩ => ⟨S1x16x2048, .f32⟩
  | .hbm, ⟨41, _⟩ => ⟨S1x16x2048x1, .f32⟩
  | .hbm, ⟨42, _⟩ => ⟨S1x16x2048x2048, .f32⟩
  | .hbm, ⟨43, _⟩ => ⟨S1x16x2048x2048, .f32⟩
  | .hbm, ⟨44, _⟩ => ⟨S1x16x2048x2048, .f32⟩
  | .hbm, ⟨45, _⟩ => ⟨S_, .f32⟩
  | .hbm, ⟨46, _⟩ => ⟨S1x16x2048, .f32⟩
  | .hbm, ⟨47, _⟩ => ⟨S1x16x2048x1, .f32⟩
  | .hbm, ⟨48, _⟩ => ⟨S1x16x2048x2048, .f32⟩
  | .hbm, ⟨49, _⟩ => ⟨S1x16x2048x2048, .f32⟩
  | .hbm, ⟨50, _⟩ => ⟨S16x2048x2048, .f32⟩
  | .hbm, ⟨51, _⟩ => ⟨S16x2048x64, .f32⟩
  | .hbm, ⟨52, _⟩ => ⟨S16x2048x64, .f32⟩
  | .hbm, ⟨53, _⟩ => ⟨S1x16x2048x64, .f32⟩
  | .hbm, ⟨54, _⟩ => ⟨S1x2048x16x64, .f32⟩
  | .hbm, ⟨55, _⟩ => ⟨S1x2048x1024, .f32⟩
  | .hbm, ⟨56, _⟩ => ⟨S1x2048x1024, .f32⟩
  | .hbm, ⟨57, _⟩ => ⟨S1x1x1024, .f32⟩
  | .hbm, ⟨58, _⟩ => ⟨S1x2048x1024, .f32⟩
  | .hbm, ⟨59, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Proof.Math.lean ====
/-
  The mathematics of one layer of attention over the extended reals, free of any program: an affine map, the scores of
  one head, the kernel's form of the softmax average (base two, no shift, one division per row) and the reference's
  form (base e, shifted by the row's maximum, one division per entry), and the theorem that the two forms agree when
  the scores are finite. The averaged values may be infinite.
-/
module
public import Idealize.ShloMosaic.PureOps.Ideal
@[expose] public section

noncomputable section

namespace Cert.Attn
open Idealize.ShloMosaic

/-- An affine map: row `x` times the matrix `w`, plus `b`, at column `n`. -/
def affine {K N : Nat} (x : Fin K → EReal) (w : Fin K → Fin N → EReal) (b : Fin N → EReal) (n : Fin N) : EReal :=
  (∑ k, x k * w k n) + b n

/-- Entry `e` of the 64 columns that make up the head of column `c`. -/
def headCol (c : Fin 1024) (e : Fin 64) : Fin 1024 := ⟨c.val / 64 * 64 + e.val, by omega⟩

/-- The score of the query row `q` against key `j`, in the head of column `c`. -/
def score (q : Fin 1024 → EReal) (k : Fin 2048 → Fin 1024 → EReal) (c : Fin 1024) (j : Fin 2048) : EReal :=
  ∑ e : Fin 64, q (headCol c e) * k j (headCol c e)

/-- The factor the kernel multiplies a score by: an eighth, in units of `log 2`. -/
def expScale : EReal := (((1 / 8) * (Real.log 2)⁻¹ : ℝ) : EReal)

/-- The kernel's softmax average of the values `v` at scores `s`: powers of two, summed against the values, times the
    reciprocal of their sum. -/
def avgKernel {n : Nat} (s v : Fin n → EReal) : EReal :=
  (∑ j, Ideal.exp2 (s j * expScale) * v j) * Ideal.div 1 (∑ j, Ideal.exp2 (s j * expScale))

/-- The shift the reference takes off the scaled scores of a row: their maximum. -/
def rowMax {n : Nat} (s : Fin n → EReal) : EReal :=
  max ⊥ (Finset.univ.fold max ⊥ fun j => s j * (((1 / 8 : ℝ)) : EReal))

/-- The reference's weight before it is normalised. -/
def rowExp {n : Nat} (s : Fin n → EReal) (j : Fin n) : EReal :=
  Ideal.exp (s j * (((1 / 8 : ℝ)) : EReal) - rowMax s)

/-- The reference's softmax average of the values `v` at scores `s`. -/
def avgReference {n : Nat} (s v : Fin n → EReal) : EReal :=
  ∑ j, Ideal.div (rowExp s j) (∑ j', rowExp s j') * v j

/-! ## Finite extended reals -/

/-- A finite sum of real numbers, taken in the extended reals, is the real sum. -/
theorem sum_coe {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- Multiplying by a nonnegative real distributes over any finite sum of extended reals. -/
theorem sum_mul_coe {ι : Type*} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih, mul_comm (f a + _), mul_comm (f a), mul_comm (∑ i ∈ S, f i)]
    exact EReal.left_distrib_of_nonneg_of_ne_top (EReal.coe_nonneg.mpr hc) (EReal.coe_ne_top c) _ _

/-- An extended real is FINITE when it is a real number. -/
def Finite (x : EReal) : Prop := ∃ r : ℝ, x = (r : EReal)

/-- The sum of two finite numbers is finite. -/
theorem Finite.add {x y : EReal} (hx : Finite x) (hy : Finite y) : Finite (x + y) := by
  obtain ⟨a, rfl⟩ := hx; obtain ⟨b, rfl⟩ := hy; exact ⟨a + b, (EReal.coe_add a b).symm⟩

/-- The product of two finite numbers is finite. -/
theorem Finite.mul {x y : EReal} (hx : Finite x) (hy : Finite y) : Finite (x * y) := by
  obtain ⟨a, rfl⟩ := hx; obtain ⟨b, rfl⟩ := hy; exact ⟨a * b, (EReal.coe_mul a b).symm⟩

/-- A sum of finite numbers is finite. -/
theorem Finite.sum {ι : Type*} (S : Finset ι) (f : ι → EReal) (h : ∀ i, Finite (f i)) : Finite (∑ i ∈ S, f i) := by
  choose g hg using h
  exact ⟨∑ i ∈ S, g i, by rw [← sum_coe]; exact Finset.sum_congr rfl fun i _ => hg i⟩

/-- An affine map depends only on the entries of its row, matrix and bias. -/
theorem affine_congr {K N : Nat} {x x' : Fin K → EReal} {w w' : Fin K → Fin N → EReal} {b b' : Fin N → EReal} (n : Fin N)
    (hx : ∀ k, x k = x' k) (hw : ∀ k n, w k n = w' k n) (hb : ∀ n, b n = b' n) : affine x w b n = affine x' w' b' n := by
  rw [funext hx, funext fun k => funext (hw k), funext hb]

/-- An affine map of finite entries has finite entries. -/
theorem affine_finite {K N : Nat} (x : Fin K → EReal) (w : Fin K → Fin N → EReal) (b : Fin N → EReal) (n : Fin N)
    (hx : ∀ k, Finite (x k)) (hw : ∀ k n, Finite (w k n)) (hb : ∀ n, Finite (b n)) : Finite (affine x w b n) :=
  (Finite.sum _ _ fun k => (hx k).mul (hw k n)).add (hb n)

/-- The scores of finite queries and keys are finite. -/
theorem score_finite (q : Fin 1024 → EReal) (k : Fin 2048 → Fin 1024 → EReal) (c : Fin 1024) (j : Fin 2048)
    (hq : ∀ n, Finite (q n)) (hk : ∀ j n, Finite (k j n)) : Finite (score q k c j) :=
  Finite.sum _ _ fun e => (hq _).mul (hk _ _)

/-- The maximum of a nonempty row of finite scores is finite. -/
theorem rowMax_finite {n : Nat} (hn : 0 < n) (s : Fin n → EReal) (hs : ∀ j, Finite (s j)) : Finite (rowMax s) := by
  choose r hr using hs
  have hbot : (⊥ : EReal) < rowMax s := by
    unfold rowMax
    rw [lt_max_iff, Finset.lt_fold_max]
    refine Or.inr (Or.inr ⟨⟨0, hn⟩, Finset.mem_univ _, ?_⟩)
    rw [hr, ← EReal.coe_mul]
    exact EReal.bot_lt_coe _
  have htop : rowMax s < ⊤ := by
    unfold rowMax
    rw [max_lt_iff, Finset.fold_max_lt]
    refine ⟨bot_lt_top, bot_lt_top, fun j _ => ?_⟩
    rw [hr, ← EReal.coe_mul]
    exact EReal.coe_lt_top _
  exact ⟨(rowMax s).toReal, (EReal.coe_toReal htop.ne hbot.ne').symm⟩

/-! ## The two forms agree -/

/-- Two to the scaled score is the exponential of an eighth of the score. -/
theorem exp2_scale (r : ℝ) : Ideal.exp2 ((r : EReal) * expScale) = ((Real.exp (r * (1 / 8)) : ℝ) : EReal) := by
  have hl : Real.log 2 ≠ 0 := (Real.log_pos (by norm_num)).ne'
  unfold expScale
  rw [← EReal.coe_mul, Ideal.exp2_coe]
  congr 1
  show (2 : ℝ) ^ (r * ((1 / 8) * (Real.log 2)⁻¹)) = _
  rw [Real.rpow_def_of_pos (by norm_num)]
  congr 1
  field_simp

/-- The kernel's average and the reference's average agree at finite scores, whatever the values averaged. -/
theorem avg_eq {n : Nat} (hn : 0 < n) (s v : Fin n → EReal) (hs : ∀ j, Finite (s j)) : avgKernel s v = avgReference s v := by
  obtain ⟨M, hM⟩ := rowMax_finite hn s hs
  choose r hr using hs
  have hne : (Finset.univ : Finset (Fin n)).Nonempty := ⟨⟨0, hn⟩, Finset.mem_univ _⟩
  have hE : 0 < ∑ j, Real.exp (r j * (1 / 8)) := Finset.sum_pos (fun j _ => Real.exp_pos _) hne
  have hk : ∀ j, Ideal.exp2 (s j * expScale) = ((Real.exp (r j * (1 / 8)) : ℝ) : EReal) := fun j => by
    rw [hr, exp2_scale]
  have hx : ∀ j, rowExp s j = ((Real.exp (r j * (1 / 8)) * Real.exp (-M) : ℝ) : EReal) := fun j => by
    unfold rowExp
    rw [hM, hr, ← EReal.coe_mul, ← EReal.coe_sub, Ideal.exp_coe, ← Real.exp_add, ← sub_eq_add_neg]
  have hE' : 0 < ∑ j, Real.exp (r j * (1 / 8)) * Real.exp (-M) :=
    Finset.sum_pos (fun j _ => mul_pos (Real.exp_pos _) (Real.exp_pos _)) hne
  unfold avgKernel avgReference
  simp only [hk, hx, sum_coe]
  rw [Ideal.div_coe hE.ne', one_mul, sum_mul_coe _ _ (one_div_nonneg.mpr hE.le)]
  refine Finset.sum_congr rfl fun j _ => ?_
  rw [Ideal.div_coe hE'.ne', mul_right_comm, ← EReal.coe_mul, ← EReal.coe_mul, ← Finset.sum_mul]
  congr 2
  have := (Real.exp_pos (-M)).ne'
  field_simp

/-! ## The layer -/

/-- The attention of the query row `q` at column `c`, with the kernel's average. -/
def attnKernel (q : Fin 1024 → EReal) (k v : Fin 2048 → Fin 1024 → EReal) (c : Fin 1024) : EReal :=
  avgKernel (score q k c) fun j => v j c

/-- The attention of the query row `q` at column `c`, with the reference's average. -/
def attnReference (q : Fin 1024 → EReal) (k v : Fin 2048 → Fin 1024 → EReal) (c : Fin 1024) : EReal :=
  avgReference (score q k c) fun j => v j c

/-- The kernel's attention depends only on the entries of its queries, keys and values. -/
theorem attnKernel_congr {q q' : Fin 1024 → EReal} {k k' v v' : Fin 2048 → Fin 1024 → EReal} (c : Fin 1024)
    (hq : ∀ n, q n = q' n) (hk : ∀ j n, k j n = k' j n) (hv : ∀ j n, v j n = v' j n) :
    attnKernel q k v c = attnKernel q' k' v' c := by
  rw [funext hq, funext fun j => funext (hk j), funext fun j => funext (hv j)]

/-- At finite queries and keys the two attentions agree. -/
theorem attn_eq (q : Fin 1024 → EReal) (k v : Fin 2048 → Fin 1024 → EReal) (c : Fin 1024)
    (hq : ∀ n, Finite (q n)) (hk : ∀ j n, Finite (k j n)) : attnKernel q k v c = attnReference q k v c :=
  avg_eq (by norm_num) _ _ fun j => score_finite q k c j hq hk

/-- Every row of `x` through the affine map of `w` and `b`. -/
def proj (x : Fin 2048 → Fin 1024 → EReal) (w : Fin 1024 → Fin 1024 → EReal) (b : Fin 1024 → EReal) :
    Fin 2048 → Fin 1024 → EReal := fun i => affine (x i) w b

/-- Multi-head attention with the kernel's average: queries, keys and values projected, attention in each of the
    sixteen heads, the heads side by side projected again. -/
def mhaKernel (Q K V : Fin 2048 → Fin 1024 → EReal) (wq : Fin 1024 → Fin 1024 → EReal) (bq : Fin 1024 → EReal)
    (wk : Fin 1024 → Fin 1024 → EReal) (bk : Fin 1024 → EReal) (wv : Fin 1024 → Fin 1024 → EReal) (bv : Fin 1024 → EReal)
    (wo : Fin 1024 → Fin 1024 → EReal) (bo : Fin 1024 → EReal) (i : Fin 2048) (n : Fin 1024) : EReal :=
  affine (attnKernel (proj Q wq bq i) (proj K wk bk) (proj V wv bv)) wo bo n

/-- The same layer with the reference's average. -/
def mhaReference (Q K V : Fin 2048 → Fin 1024 → EReal) (wq : Fin 1024 → Fin 1024 → EReal) (bq : Fin 1024 → EReal)
    (wk : Fin 1024 → Fin 1024 → EReal) (bk : Fin 1024 → EReal) (wv : Fin 1024 → Fin 1024 → EReal) (bv : Fin 1024 → EReal)
    (wo : Fin 1024 → Fin 1024 → EReal) (bo : Fin 1024 → EReal) (i : Fin 2048) (n : Fin 1024) : EReal :=
  affine (attnReference (proj Q wq bq i) (proj K wk bk) (proj V wv bv)) wo bo n

/-- The two layers agree when the queries, the keys and their projections' weights and biases are finite. -/
theorem mha_eq {Q K V : Fin 2048 → Fin 1024 → EReal} {wq : Fin 1024 → Fin 1024 → EReal} {bq : Fin 1024 → EReal}
    {wk : Fin 1024 → Fin 1024 → EReal} {bk : Fin 1024 → EReal} {wv : Fin 1024 → Fin 1024 → EReal} {bv : Fin 1024 → EReal}
    {wo : Fin 1024 → Fin 1024 → EReal} {bo : Fin 1024 → EReal}
    (hQ : ∀ i k, Finite (Q i k)) (hK : ∀ i k, Finite (K i k)) (hwq : ∀ k n, Finite (wq k n)) (hbq : ∀ n, Finite (bq n))
    (hwk : ∀ k n, Finite (wk k n)) (hbk : ∀ n, Finite (bk n)) (i : Fin 2048) (n : Fin 1024) :
    mhaKernel Q K V wq bq wk bk wv bv wo bo i n = mhaReference Q K V wq bq wk bk wv bv wo bo i n := by
  have h : attnKernel (proj Q wq bq i) (proj K wk bk) (proj V wv bv) =
      attnReference (proj Q wq bq i) (proj K wk bk) (proj V wv bv) :=
    funext fun c => attn_eq _ _ _ c (fun n => affine_finite _ _ _ n (hQ i) hwq hbq)
      fun j n => affine_finite _ _ _ n (hK j) hwk hbk
  unfold mhaKernel mhaReference
  rw [h]

end Cert.Attn

end
-- ==== Proof.Head.lean ====
/-
  The heads of the attention block: what the block computes from 64 columns of queries, keys and values, at an index,
  and what four heads side by side hold. The sixteen heads of the block are the same function, cut at different places;
  the lemmas `group_*` say so.
-/
module
public import proofs.«01_k».proof.Proof.Gen.KernelIdeal.Frame
public import proofs.«01_k».proof.Proof.Math
public import Idealize.ShloMosaic.Lib.Pointwise
@[expose] public section

noncomputable section

namespace Cert.KernelIdeal.Attn
open Idealize.ShloMosaic Cert.KernelIdeal Cert.KernelIdeal.Gen Cert.KernelIdeal.Facts Cert.Attn

/-- The named constant of the kernel is the scale of the exponent. -/
theorem named_expScale :
    (Named.named KernelIdeal.κ "exp_scale" (0x3E38AA3B#32 : BitVec (FTy.bits .f32)) : Ideal .f32) = expScale :=
  IdealRules.named_const.ideal_named_scalar _ _ _ _ rfl

/-- The kernel's literal one. -/
theorem one_bits : Ideal.ofBits .f32 0x3F800000#32 = 1 := by
  simp [Ideal.ofBits, Ideal.ieee, -EReal.coe_mul]; norm_num

/-- One head at row `r`, column `l`: the kernel's softmax average of the values' column `l`, at the scores of the query
    row `r` against every key. -/
theorem head_apply (q : FVec Ideal S512x64 .bf16) (k v : FVec Ideal S2048x64 .bf16) (r : Fin 512) (l : Fin 64) :
    k1_pay3 (F := Ideal) q k v (ix2 r l)
      = avgKernel (fun j : Fin 2048 => ∑ e : Fin 64, q (ix2 r e) * k (ix2 j e)) (fun j => v (ix2 j l)) := by
  pointwise [k1_pay3]
  simp only [named_expScale, one_bits, avgKernel]
  rfl

section Cuts
variable {F : FTy → Type} [FloatOps F] [Named F]

/-- Four heads side by side. -/
def cat4 (a b c d : FVec F S512x64 .bf16) : FVec F S512x256 .bf16 :=
  shapeCast S512x256 (concatenate S512x256 1 [⟨S512x64, a⟩, ⟨S512x64, b⟩, ⟨S512x64, c⟩, ⟨S512x64, d⟩]
    concatenates_S512x64_S512x64_S512x64_S512x64_S512x256_d1) shapeCasts_S512x256_S512x256

variable (q₀ q₁ q₂ q₃ : Vec F S512x64 .bf16) (k₀ k₁ k₂ k₃ v₀ v₁ v₂ v₃ : Vec F S2048x64 .bf16)

/-- The four heads of one group, side by side. -/
def group : FVec F S512x256 .bf16 :=
  cat4 (k1_pay3 q₀ k₀ v₀) (k1_pay3 q₁ k₁ v₁) (k1_pay3 q₂ k₂ v₂) (k1_pay3 q₃ k₃ v₃)

/-- Heads 0 to 3 are stored as one group. -/
theorem group_0 : k1_pay8 (k1_pay3 q₀ k₀ v₀) (k1_pay5 (k1_pay4 q₁ k₁ v₁)) (k1_pay6 q₂ k₂ v₂) (k1_pay7 q₃ k₃ v₃)
    = group q₀ q₁ q₂ q₃ k₀ k₁ k₂ k₃ v₀ v₁ v₂ v₃ := rfl

/-- Heads 4 to 7 are stored as one group. -/
theorem group_1 : k1_pay20 (k1_pay9 q₀ k₀ v₀) (k1_pay14 (k1_pay11 q₁ k₁) (k1_pay12 q₁ k₁) (k1_pay13 v₁))
      (k1_pay15 q₂ k₂ v₂) (k1_pay17 q₃ k₃) (k1_pay18 q₃ k₃) (k1_pay19 v₃)
    = group q₀ q₁ q₂ q₃ k₀ k₁ k₂ k₃ v₀ v₁ v₂ v₃ := rfl

/-- Heads 8 to 11 are stored as one group. -/
theorem group_2 : k1_pay26 (k1_pay21 q₀ k₀ v₀) (k1_pay23 (k1_pay22 q₁ k₁) v₁) (k1_pay24 q₂ k₂ v₂) (k1_pay25 q₃ k₃) v₃
    = group q₀ q₁ q₂ q₃ k₀ k₁ k₂ k₃ v₀ v₁ v₂ v₃ := rfl

/-- Heads 12 to 15 are stored as one group. -/
theorem group_3 : k1_pay1 (k1_pay27 q₀ k₀ v₀) (k1_pay30 (k1_pay28 q₁) (k1_pay29 k₁) v₁) (k1_pay31 q₂ k₂ v₂)
      (k1_pay32 q₃) (k1_pay33 k₃) v₃
    = group q₀ q₁ q₂ q₃ k₀ k₁ k₂ k₃ v₀ v₁ v₂ v₃ := rfl
end Cuts

/-- Four heads side by side, read at row `r`, column `l`: if each head is `g` at its own columns, the whole is `g`. -/
theorem cat4_apply (a b c d : FVec Ideal S512x64 .bf16) (r : Fin 512) (l : Fin 256) (g : Fin 256 → EReal)
    (ha : ∀ e : Fin 64, a (ix2 r e) = g ⟨e.val, by omega⟩) (hb : ∀ e : Fin 64, b (ix2 r e) = g ⟨64 + e.val, by omega⟩)
    (hc : ∀ e : Fin 64, c (ix2 r e) = g ⟨128 + e.val, by omega⟩) (hd : ∀ e : Fin 64, d (ix2 r e) = g ⟨192 + e.val, by omega⟩) :
    cat4 (F := Ideal) a b c d (ix2 r l) = g l := by
  pointwise [cat4]
  by_cases h₀ : l.val < 64
  · rw [dif_pos h₀]; exact ha ⟨l.val, h₀⟩
  rw [dif_neg h₀]
  by_cases h₁ : l.val - 64 < 64
  · rw [dif_pos h₁]
    exact (hb ⟨l.val - 64, h₁⟩).trans (congrArg g (Fin.ext (by show 64 + (l.val - 64) = l.val; omega)))
  rw [dif_neg h₁]
  by_cases h₂ : l.val - 64 - 64 < 64
  · rw [dif_pos h₂]
    exact (hc ⟨l.val - 64 - 64, h₂⟩).trans (congrArg g (Fin.ext (by show 128 + (l.val - 64 - 64) = l.val; omega)))
  rw [dif_neg h₂]
  exact (hd ⟨l.val - 64 - 64 - 64, by omega⟩).trans
    (congrArg g (Fin.ext (by show 192 + (l.val - 64 - 64 - 64) = l.val; omega)))

/-- A head read out of whole blocks of queries, keys and values, at the 64 columns starting at a multiple `o` of 64: the
    attention at column `o + e`. -/
theorem head_ld (X : FVec Ideal S512x1024 .bf16) (Y Z : FVec Ideal S2048x1024 .bf16) (o : Nat) (ho : o % 64 = 0)
    (ho' : o + 64 ≤ 1024) (hq : ∀ a, (![0, o] : Fin 2 → Nat) a + (![512, 64] : Fin 2 → Nat) a ≤ S512x1024.size a)
    (hk : ∀ a, (![0, o] : Fin 2 → Nat) a + (![2048, 64] : Fin 2 → Nat) a ≤ S2048x1024.size a) (r : Fin 512) (e : Fin 64) :
    k1_pay3 (F := Ideal) (View.ld X (Rect.unit (s := S512x1024) ![0, o] ![512, 64] hq))
        (View.ld Y (Rect.unit (s := S2048x1024) ![0, o] ![2048, 64] hk))
        (View.ld Z (Rect.unit (s := S2048x1024) ![0, o] ![2048, 64] hk)) (ix2 r e)
      = attnKernel (fun m => X (ix2 r m)) (fun j m => Y (ix2 j m)) (fun j m => Z (ix2 j m)) ⟨o + e.val, by omega⟩ := by
  rw [head_apply]
  unfold attnKernel score
  pointwise
  have hcol : ∀ (h : o + e.val < 1024) (x : Fin 64), headCol ⟨o + e.val, h⟩ x = ⟨o + x.val, by omega⟩ := fun h x =>
    Fin.ext (by show (o + e.val) / 64 * 64 + x.val = o + x.val; omega)
  simp only [hcol]

end Cert.KernelIdeal.Attn

end
-- ==== Proof.Block.lean ====
/-
  What one block of each grid computes, read off what the block's body leaves: a block of the projections is an affine
  map of the block's rows, a block of the attention grid is the attention of the block's query rows against all keys
  and values, every head, followed by the output projection.
-/
module
public import proofs.«01_k».proof.Proof.Head
public import Idealize.ShloMosaic.Lib.Pipeline.ReadBack
public import Idealize.ShloMosaic.Lib.Pipeline.ValueKit
@[expose] public section
noncomputable section
namespace Cert.KernelIdeal.Attn
open Idealize.ShloMosaic Idealize.ShloMosaic.TcCoe Idealize.SL Idealize.SL.Sem Cert.KernelIdeal Cert.KernelIdeal.Gen Cert.KernelIdeal.Facts Cert.Attn
open Idealize.ShloMosaic.Pipeline (Dat Cfg Window)

/-- The output projection at row `r`, column `n`. -/
theorem out_value (X : FVec Ideal S512x1024 .bf16) (W : FVec Ideal S1024x1024 .f32) (b : FVec Ideal S1x1024 .f32) (r : Fin 512) (n : Fin 1024) :
    k1_pay2 (F := Ideal) X W b (ix2 r n) = affine (fun m => X (ix2 r m)) (fun m n => W (ix2 m n)) (fun n => b (ix2 0 n)) n := by
  pointwise [k1_pay2]
  rfl

/-- The block of queries' attention, every head: what the scratch array holds when the last product reads it. -/
def attnBlock (q : FVec Ideal S512x1024 .bf16) (k v : FVec Ideal S2048x1024 .bf16) : FVec Ideal S512x1024 .bf16 := fun y =>
  attnKernel (fun m => q (ix2 (y 0) m)) (fun j m => k (ix2 j m)) (fun j m => v (ix2 j m)) (y 1)

/-- A group of four heads, stored at 256 columns from `o₀`, holds the block's attention at those columns. -/
theorem group_piece (q : FVec Ideal S512x1024 .bf16) (k v : FVec Ideal S2048x1024 .bf16) (o₀ o₁ o₂ o₃ : Nat) (ho : o₀ % 64 = 0)
    (h₁ : o₁ = o₀ + 64) (h₂ : o₂ = o₀ + 128) (h₃ : o₃ = o₀ + 192)
    (hb : ∀ a, (![0, o₀] : Fin 2 → Nat) a + (![512, 256] : Fin 2 → Nat) a ≤ S512x1024.size a)
    (hq₀ : ∀ a, (![0, o₀] : Fin 2 → Nat) a + (![512, 64] : Fin 2 → Nat) a ≤ S512x1024.size a)
    (hq₁ : ∀ a, (![0, o₁] : Fin 2 → Nat) a + (![512, 64] : Fin 2 → Nat) a ≤ S512x1024.size a)
    (hq₂ : ∀ a, (![0, o₂] : Fin 2 → Nat) a + (![512, 64] : Fin 2 → Nat) a ≤ S512x1024.size a)
    (hq₃ : ∀ a, (![0, o₃] : Fin 2 → Nat) a + (![512, 64] : Fin 2 → Nat) a ≤ S512x1024.size a)
    (hk₀ : ∀ a, (![0, o₀] : Fin 2 → Nat) a + (![2048, 64] : Fin 2 → Nat) a ≤ S2048x1024.size a)
    (hk₁ : ∀ a, (![0, o₁] : Fin 2 → Nat) a + (![2048, 64] : Fin 2 → Nat) a ≤ S2048x1024.size a)
    (hk₂ : ∀ a, (![0, o₂] : Fin 2 → Nat) a + (![2048, 64] : Fin 2 → Nat) a ≤ S2048x1024.size a)
    (hk₃ : ∀ a, (![0, o₃] : Fin 2 → Nat) a + (![2048, 64] : Fin 2 → Nat) a ≤ S2048x1024.size a)
    (x : (Rect.unit (s := S512x1024) ![0, o₀] ![512, 256] hb).shape.Idx) :
    group (F := Ideal)
      (View.ld q (Rect.unit (s := S512x1024) ![0, o₀] ![512, 64] hq₀)) (View.ld q (Rect.unit (s := S512x1024) ![0, o₁] ![512, 64] hq₁))
      (View.ld q (Rect.unit (s := S512x1024) ![0, o₂] ![512, 64] hq₂)) (View.ld q (Rect.unit (s := S512x1024) ![0, o₃] ![512, 64] hq₃))
      (View.ld k (Rect.unit (s := S2048x1024) ![0, o₀] ![2048, 64] hk₀)) (View.ld k (Rect.unit (s := S2048x1024) ![0, o₁] ![2048, 64] hk₁))
      (View.ld k (Rect.unit (s := S2048x1024) ![0, o₂] ![2048, 64] hk₂)) (View.ld k (Rect.unit (s := S2048x1024) ![0, o₃] ![2048, 64] hk₃))
      (View.ld v (Rect.unit (s := S2048x1024) ![0, o₀] ![2048, 64] hk₀)) (View.ld v (Rect.unit (s := S2048x1024) ![0, o₁] ![2048, 64] hk₁))
      (View.ld v (Rect.unit (s := S2048x1024) ![0, o₂] ![2048, 64] hk₂)) (View.ld v (Rect.unit (s := S2048x1024) ![0, o₃] ![2048, 64] hk₃)) x
      = attnBlock q k v ((Rect.unit (s := S512x1024) ![0, o₀] ![512, 256] hb).emb x) := by
  subst h₁ h₂ h₃
  have hb' : o₀ + 256 ≤ 1024 := hb 1
  have hx : x = ix2 (x 0) (x 1) := eq_ix2 x
  have hx0 : (x 0).val < 512 := (x 0).isLt
  have hx1 : (x 1).val < 256 := (x 1).isLt
  rw [hx]
  refine (cat4_apply _ _ _ _ ⟨(x 0).val, hx0⟩ ⟨(x 1).val, hx1⟩
    (fun l => attnKernel (fun m => q (ix2 ⟨(x 0).val, hx0⟩ m)) (fun j m => k (ix2 j m)) (fun j m => v (ix2 j m)) ⟨o₀ + l.val, by omega⟩)
    ?_ ?_ ?_ ?_).trans ?_
  · exact fun e => head_ld q k v o₀ (by omega) (by omega) hq₀ hk₀ _ e
  · exact fun e => (head_ld q k v (o₀ + 64) (by omega) (by omega) hq₁ hk₁ _ e).trans (by congr 2; exact Nat.add_assoc ..)
  · exact fun e => (head_ld q k v (o₀ + 128) (by omega) (by omega) hq₂ hk₂ _ e).trans (by congr 2; exact Nat.add_assoc ..)
  · exact fun e => (head_ld q k v (o₀ + 192) (by omega) (by omega) hq₃ hk₃ _ e).trans (by congr 2; exact Nat.add_assoc ..)
  · have he : (Rect.unit (s := S512x1024) ![0, o₀] ![512, 256] hb).emb (ix2 (x 0) (x 1))
        = (ix2 (⟨(x 0).val, hx0⟩ : Fin 512) (⟨o₀ + (x 1).val, by omega⟩ : Fin 1024) : S512x1024.Idx) := by
      funext a
      refine Fin.ext ((Rect.idx_unit_val (s := S512x1024) ![0, o₀] ![512, 256] hb (ix2 (x 0) (x 1)) a).trans ?_)
      fin_cases a
      · exact Nat.zero_add _
      · rfl
    exact Eq.trans rfl (congrArg (attnBlock q k v) he).symm

/-- A column of the 1024 lies in one of the four stored groups of 256. -/
theorem col_cases (y : S512x1024.Idx) (o : Nat) (hb : ∀ a, (![0, o] : Fin 2 → Nat) a + (![512, 256] : Fin 2 → Nat) a ≤ S512x1024.size a)
    (h₁ : o ≤ (y 1).val) (h₂ : (y 1).val < o + 256) : y ∈ (Rect.unit (s := S512x1024) ![0, o] ![512, 256] hb).set := by
  rw [Rect.mem_set_unit]
  intro a
  fin_cases a
  · exact ⟨Nat.zero_le _, by show (y 0).val < 0 + 512; have : (y 0).val < 512 := (y 0).isLt; omega⟩
  · exact ⟨h₁, h₂⟩

/-- The rectangle of the whole block places every index at itself. -/
theorem whole_idx (j : (Rect.unit (s := S512x1024) ![0, 0] ![512, 1024] inb_S512x1024_S512x1024_0_0).shape.Idx) :
    (Rect.unit (s := S512x1024) ![0, 0] ![512, 1024] inb_S512x1024_S512x1024_0_0).idx j = j := by
  funext a
  refine Fin.ext ((Rect.idx_unit_val _ _ _ j a).trans ?_)
  fin_cases a
  · exact Nat.zero_add _
  · exact Nat.zero_add _

variable (V : (c : Dev nD) → (b : Ref sig .tc) → Buf (Elt Ideal) ((c : Thread nD τ).loc b))

/-- A block of the attention grid: the output projection of the block's attention. -/
theorem outs_eq (c : Dev nD) (t : Fin cfg1.N) :
    outsAt1 (F := Ideal) V c t = k1_pay2 (F := Ideal) (attnBlock (iblk1 V c 0 t) (iblk1 V c 1 t) (iblk1 V c 2 t)) (iblk1 V c 3 t) (iblk1 V c 4 t) := by
  unfold outsAt1
  frame_out
  congr 1
  refine (View.readCov_eq_canon' _ _ _).trans ?_
  funext j
  refine (View.canon_apply_of_pieces (attnBlock (iblk1 V c 0 t) (iblk1 V c 1 t) (iblk1 V c 2 t)) _ ?_ _ ?_).trans ?_
  · simp only [List.forall_mem_cons, List.forall_mem_nil]
    refine ⟨fun x => ?_, fun x => ?_, fun x => ?_, fun x => ?_, fun _ h => absurd h (by simp)⟩
    · exact group_piece _ _ _ 768 832 896 960 rfl rfl rfl rfl _ _ _ _ _ _ _ _ _ x
    · exact group_piece _ _ _ 512 576 640 704 rfl rfl rfl rfl _ _ _ _ _ _ _ _ _ x
    · exact group_piece _ _ _ 256 320 384 448 rfl rfl rfl rfl _ _ _ _ _ _ _ _ _ x
    · exact group_piece _ _ _ 0 64 128 192 rfl rfl rfl rfl _ _ _ _ _ _ _ _ _ x
  · have hj : (j 1).val < 1024 := (j 1).isLt
    rw [whole_idx j]
    rcases Nat.lt_or_ge (j 1).val 256 with h | h
    · exact ⟨_, .tail _ (.tail _ (.tail _ (.head _))), col_cases j 0 inb_S512x1024_S512x256_0_0 (Nat.zero_le _) (by omega)⟩
    rcases Nat.lt_or_ge (j 1).val 512 with h' | h'
    · exact ⟨_, .tail _ (.tail _ (.head _)), col_cases j 256 inb_S512x1024_S512x256_0_256 h (by omega)⟩
    rcases Nat.lt_or_ge (j 1).val 768 with h'' | h''
    · exact ⟨_, .tail _ (.head _), col_cases j 512 inb_S512x1024_S512x256_0_512 h' (by omega)⟩
    · exact ⟨_, .head _, col_cases j 768 inb_S512x1024_S512x256_0_768 h'' (by omega)⟩
  · exact congrArg _ (whole_idx j)

/-- A block of the attention grid at row `r`, column `n`: the output projection of the row's attention. -/
theorem outs_apply (c : Dev nD) (t : Fin cfg1.N) (r : Fin 512) (n : Fin 1024) :
    outsAt1 (F := Ideal) V c t (ix2 r n)
      = affine (attnKernel (fun m => (iblk1 V c 0 t : FVec Ideal S512x1024 .bf16) (ix2 r m))
          (fun j m => (iblk1 V c 1 t : FVec Ideal S2048x1024 .bf16) (ix2 j m))
          (fun j m => (iblk1 V c 2 t : FVec Ideal S2048x1024 .bf16) (ix2 j m)))
        (fun m n => (iblk1 V c 3 t : FVec Ideal S1024x1024 .f32) (ix2 m n))
        (fun n => (iblk1 V c 4 t : FVec Ideal S1x1024 .f32) (ix2 0 n)) n := by
  rw [outs_eq, out_value]
  rfl

/-! ## The projections -/

section Proj
variable (x₀ x₁ x₂ : Vec Ideal S512x1024 .f32) (x₃ x₄ x₅ : Vec Ideal S1024x1024 .f32) (x₆ x₇ x₈ : Vec Ideal S1x1024 .f32)
variable (r : Fin 512) (n : Fin 1024)

/-- A block of the queries' projection. -/
theorem out0_9_apply : out0_9 (F := Ideal) x₀ x₁ x₂ x₃ x₄ x₅ x₆ x₇ x₈ (ix2 r n)
    = affine (fun m => x₀ (ix2 r m)) (fun m n => x₃ (ix2 m n)) (fun n => x₆ (ix2 0 n)) n := by
  unfold out0_9
  frame_out
  pointwise [k0_pay2]
  rfl

/-- A block of the keys' projection. -/
theorem out0_10_apply : out0_10 (F := Ideal) x₀ x₁ x₂ x₃ x₄ x₅ x₆ x₇ x₈ (ix2 r n)
    = affine (fun m => x₁ (ix2 r m)) (fun m n => x₄ (ix2 m n)) (fun n => x₇ (ix2 0 n)) n := by
  unfold out0_10
  frame_out
  pointwise [k0_pay3]
  rfl

/-- A block of the values' projection. -/
theorem out0_11_apply : out0_11 (F := Ideal) x₀ x₁ x₂ x₃ x₄ x₅ x₆ x₇ x₈ (ix2 r n)
    = affine (fun m => x₂ (ix2 r m)) (fun m n => x₅ (ix2 m n)) (fun n => x₈ (ix2 0 n)) n := by
  unfold out0_11
  frame_out
  pointwise [k0_pay1, k0_pay4, k0_pay5]
  rfl
end Proj

end Cert.KernelIdeal.Attn
end
-- ==== Proof.Arrays.lean ====
/-
  What the arrays hold when each grid has run. Block `t` of a grid is rows `512 t` to `512 t + 511` of its arrays; the
  weights and biases, the keys and the values are read whole at every point. So each array the first grid writes is an
  affine map of its input array, and the array the second writes is the output projection of the attention of each row.
-/
module
public import proofs.«01_k».proof.Proof.Block
@[expose] public section

noncomputable section

namespace Cert.KernelIdeal.Attn
open Idealize.ShloMosaic Idealize.ShloMosaic.TcCoe Idealize.SL Idealize.SL.Sem
open Cert.KernelIdeal Cert.KernelIdeal.Gen Cert.KernelIdeal.Facts Cert.Attn

/-- Every row of `x` through the affine map of `w` and `b`. -/
def projArr (x : FVec Ideal S2048x1024 .f32) (w : FVec Ideal S1024x1024 .f32) (b : FVec Ideal S1x1024 .f32) :
    FVec Ideal S2048x1024 .bf16 := fun y =>
  affine (fun m => x (ix2 (y 0) m)) (fun m n => w (ix2 m n)) (fun n => b (ix2 0 n)) (y 1)

/-- The output projection of the attention of every row of `q`. -/
def attnArr (q k v : FVec Ideal S2048x1024 .bf16) (w : FVec Ideal S1024x1024 .f32) (b : FVec Ideal S1x1024 .f32) :
    FVec Ideal S2048x1024 .f32 := fun y =>
  affine (attnKernel (fun m => q (ix2 (y 0) m)) (fun j m => k (ix2 j m)) (fun j m => v (ix2 j m)))
    (fun m n => w (ix2 m n)) (fun n => b (ix2 0 n)) (y 1)

variable (V : (c : Dev nD) → (b : Ref sig .tc) → Buf (Elt Ideal) ((c : Thread nD τ).loc b))

/-- Row `512 t + r` of an array: row `r` of block `t`. -/
def row (t : Fin 4) (r : Fin 512) : Fin 2048 := ⟨512 * t.val + r.val, by omega⟩

/-! ### The first grid -/

/-! Which block of its array each window holds at point `t`. -/
/-- Window 0 holds row block `t` at point `t`. -/
theorem idx0_0 : ∀ t : Fin cfg0.N, win0_0.index t = ![t.val, 0] := (by decide +kernel : ∀ t : Fin grid0.N, _)
/-- Window 1 holds row block `t` at point `t`. -/
theorem idx0_1 : ∀ t : Fin cfg0.N, win0_1.index t = ![t.val, 0] := (by decide +kernel : ∀ t : Fin grid0.N, _)
/-- Window 2 holds row block `t` at point `t`. -/
theorem idx0_2 : ∀ t : Fin cfg0.N, win0_2.index t = ![t.val, 0] := (by decide +kernel : ∀ t : Fin grid0.N, _)
/-- Window 3 holds its whole array at point `t`. -/
theorem idx0_3 : ∀ t : Fin cfg0.N, win0_3.index t = ![0, 0] := (by decide +kernel : ∀ t : Fin grid0.N, _)
/-- Window 4 holds its whole array at point `t`. -/
theorem idx0_4 : ∀ t : Fin cfg0.N, win0_4.index t = ![0, 0] := (by decide +kernel : ∀ t : Fin grid0.N, _)
/-- Window 5 holds its whole array at point `t`. -/
theorem idx0_5 : ∀ t : Fin cfg0.N, win0_5.index t = ![0, 0] := (by decide +kernel : ∀ t : Fin grid0.N, _)
/-- Window 6 holds its whole array at point `t`. -/
theorem idx0_6 : ∀ t : Fin cfg0.N, win0_6.index t = ![0, 0] := (by decide +kernel : ∀ t : Fin grid0.N, _)
/-- Window 7 holds its whole array at point `t`. -/
theorem idx0_7 : ∀ t : Fin cfg0.N, win0_7.index t = ![0, 0] := (by decide +kernel : ∀ t : Fin grid0.N, _)
/-- Window 8 holds its whole array at point `t`. -/
theorem idx0_8 : ∀ t : Fin cfg0.N, win0_8.index t = ![0, 0] := (by decide +kernel : ∀ t : Fin grid0.N, _)
/-- Window 9 holds row block `t` at point `t`. -/
theorem idx0_9 : ∀ t : Fin cfg0.N, win0_9.index t = ![t.val, 0] := (by decide +kernel : ∀ t : Fin grid0.N, _)
/-- Window 10 holds row block `t` at point `t`. -/
theorem idx0_10 : ∀ t : Fin cfg0.N, win0_10.index t = ![t.val, 0] := (by decide +kernel : ∀ t : Fin grid0.N, _)
/-- Window 11 holds row block `t` at point `t`. -/
theorem idx0_11 : ∀ t : Fin cfg0.N, win0_11.index t = ![t.val, 0] := (by decide +kernel : ∀ t : Fin grid0.N, _)

/-- Block `t` of the query input is its rows from `512 t`. -/
theorem iblk0_0 (c : Dev nD) (t : Fin cfg0.N) (r : Fin 512) (m : Fin 1024) :
    (iblk0 V c 0 t : FVec Ideal S512x1024 .f32) (ix2 r m) = V c main_v0 (ix2 (row t r) m) := by
  blk_simp [iblk0]
  refine congrArg _ ?_
  blk_ext [idx0_0, row]

/-- Block `t` of the key input is its rows from `512 t`. -/
theorem iblk0_1 (c : Dev nD) (t : Fin cfg0.N) (r : Fin 512) (m : Fin 1024) :
    (iblk0 V c 1 t : FVec Ideal S512x1024 .f32) (ix2 r m) = V c main_v1 (ix2 (row t r) m) := by
  blk_simp [iblk0]
  refine congrArg _ ?_
  blk_ext [idx0_1, row]

/-- Block `t` of the value input is its rows from `512 t`. -/
theorem iblk0_2 (c : Dev nD) (t : Fin cfg0.N) (r : Fin 512) (m : Fin 1024) :
    (iblk0 V c 2 t : FVec Ideal S512x1024 .f32) (ix2 r m) = V c main_v2 (ix2 (row t r) m) := by
  blk_simp [iblk0]
  refine congrArg _ ?_
  blk_ext [idx0_2, row]

/-- The query weights are read whole. -/
theorem iblk0_3 (c : Dev nD) (t : Fin cfg0.N) (j : Fin 1024) (m : Fin 1024) :
    (iblk0 V c 3 t : FVec Ideal S1024x1024 .f32) (ix2 j m) = V c main_arg3 (ix2 j m) := by
  blk_simp [iblk0]
  refine congrArg _ ?_
  blk_ext [idx0_3]

/-- The key weights are read whole. -/
theorem iblk0_4 (c : Dev nD) (t : Fin cfg0.N) (j : Fin 1024) (m : Fin 1024) :
    (iblk0 V c 4 t : FVec Ideal S1024x1024 .f32) (ix2 j m) = V c main_arg5 (ix2 j m) := by
  blk_simp [iblk0]
  refine congrArg _ ?_
  blk_ext [idx0_4]

/-- The value weights are read whole. -/
theorem iblk0_5 (c : Dev nD) (t : Fin cfg0.N) (j : Fin 1024) (m : Fin 1024) :
    (iblk0 V c 5 t : FVec Ideal S1024x1024 .f32) (ix2 j m) = V c main_arg7 (ix2 j m) := by
  blk_simp [iblk0]
  refine congrArg _ ?_
  blk_ext [idx0_5]

/-- The query bias is read whole. -/
theorem iblk0_6 (c : Dev nD) (t : Fin cfg0.N) (m : Fin 1024) :
    (iblk0 V c 6 t : FVec Ideal S1x1024 .f32) (ix2 0 m) = V c main_v3 (ix2 0 m) := by
  blk_simp [iblk0]
  refine congrArg _ ?_
  blk_ext [idx0_6]

/-- The key bias is read whole. -/
theorem iblk0_7 (c : Dev nD) (t : Fin cfg0.N) (m : Fin 1024) :
    (iblk0 V c 7 t : FVec Ideal S1x1024 .f32) (ix2 0 m) = V c main_v4 (ix2 0 m) := by
  blk_simp [iblk0]
  refine congrArg _ ?_
  blk_ext [idx0_7]

/-- The value bias is read whole. -/
theorem iblk0_8 (c : Dev nD) (t : Fin cfg0.N) (m : Fin 1024) :
    (iblk0 V c 8 t : FVec Ideal S1x1024 .f32) (ix2 0 m) = V c main_v5 (ix2 0 m) := by
  blk_simp [iblk0]
  refine congrArg _ ?_
  blk_ext [idx0_8]

/-- An index of output block `t` lies in row `512 t + r` of the array. -/
theorem emb0_9 (t : Fin cfg0.N) (r : Fin 512) (m : Fin 1024) :
    (win0_9.blk t).view.emb (ix2 r m) = ix2 (row t r) m := by
  blk_ext [idx0_9, row]

/-- An index of output block `t` lies in row `512 t + r` of the array. -/
theorem emb0_10 (t : Fin cfg0.N) (r : Fin 512) (m : Fin 1024) :
    (win0_10.blk t).view.emb (ix2 r m) = ix2 (row t r) m := by
  blk_ext [idx0_10, row]

/-- An index of output block `t` lies in row `512 t + r` of the array. -/
theorem emb0_11 (t : Fin cfg0.N) (r : Fin 512) (m : Fin 1024) :
    (win0_11.blk t).view.emb (ix2 r m) = ix2 (row t r) m := by
  blk_ext [idx0_11, row]

/-- After the first grid the query array is the affine map of the query input. -/
theorem arr0_9 (c : Dev nD) :
    (dat0 (F := Ideal) V c).arrAt 9 cfg0.N = projArr (V c main_v0) (V c main_arg3) (V c main_v3) := by
  refine (dat0 (F := Ideal) V c).arrAt_eq_of_covers 9 _ (by decide +kernel) fun t hf y => ?_
  blk_simp
  rw [after0_9]
  obtain ⟨r, n, rfl⟩ : ∃ (r : Fin 512) (n : Fin 1024), y = ix2 r n := ⟨y 0, y 1, eq_ix2 y⟩
  refine (out0_9_apply _ _ _ _ _ _ _ _ _ r n).trans (Eq.trans ?_ (congrArg _ (emb0_9 t r n)).symm)
  simp only [iblk0_0, iblk0_3, iblk0_6]
  rfl

/-- After the first grid the key array is the affine map of the key input. -/
theorem arr0_10 (c : Dev nD) :
    (dat0 (F := Ideal) V c).arrAt 10 cfg0.N = projArr (V c main_v1) (V c main_arg5) (V c main_v4) := by
  refine (dat0 (F := Ideal) V c).arrAt_eq_of_covers 10 _ (by decide +kernel) fun t hf y => ?_
  blk_simp
  rw [after0_10]
  obtain ⟨r, n, rfl⟩ : ∃ (r : Fin 512) (n : Fin 1024), y = ix2 r n := ⟨y 0, y 1, eq_ix2 y⟩
  refine (out0_10_apply _ _ _ _ _ _ _ _ _ r n).trans (Eq.trans ?_ (congrArg _ (emb0_10 t r n)).symm)
  simp only [iblk0_1, iblk0_4, iblk0_7]
  rfl

/-- After the first grid the value array is the affine map of the value input. -/
theorem arr0_11 (c : Dev nD) :
    (dat0 (F := Ideal) V c).arrAt 11 cfg0.N = projArr (V c main_v2) (V c main_arg7) (V c main_v5) := by
  refine (dat0 (F := Ideal) V c).arrAt_eq_of_covers 11 _ (by decide +kernel) fun t hf y => ?_
  blk_simp
  rw [after0_11]
  obtain ⟨r, n, rfl⟩ : ∃ (r : Fin 512) (n : Fin 1024), y = ix2 r n := ⟨y 0, y 1, eq_ix2 y⟩
  refine (out0_11_apply _ _ _ _ _ _ _ _ _ r n).trans (Eq.trans ?_ (congrArg _ (emb0_11 t r n)).symm)
  simp only [iblk0_2, iblk0_5, iblk0_8]
  rfl

/-! ### The second grid -/

/-! Which block of its array each window holds at point `t`. -/
/-- Window 0 holds row block `t` at point `t`. -/
theorem idx1_0 : ∀ t : Fin cfg1.N, win1_0.index t = ![t.val, 0] := (by decide +kernel : ∀ t : Fin grid1.N, _)
/-- Window 1 holds its whole array at point `t`. -/
theorem idx1_1 : ∀ t : Fin cfg1.N, win1_1.index t = ![0, 0] := (by decide +kernel : ∀ t : Fin grid1.N, _)
/-- Window 2 holds its whole array at point `t`. -/
theorem idx1_2 : ∀ t : Fin cfg1.N, win1_2.index t = ![0, 0] := (by decide +kernel : ∀ t : Fin grid1.N, _)
/-- Window 3 holds its whole array at point `t`. -/
theorem idx1_3 : ∀ t : Fin cfg1.N, win1_3.index t = ![0, 0] := (by decide +kernel : ∀ t : Fin grid1.N, _)
/-- Window 4 holds its whole array at point `t`. -/
theorem idx1_4 : ∀ t : Fin cfg1.N, win1_4.index t = ![0, 0] := (by decide +kernel : ∀ t : Fin grid1.N, _)
/-- Window 5 holds row block `t` at point `t`. -/
theorem idx1_5 : ∀ t : Fin cfg1.N, win1_5.index t = ![t.val, 0] := (by decide +kernel : ∀ t : Fin grid1.N, _)

/-- Block `t` of the queries is its rows from `512 t`. -/
theorem iblk1_0 (c : Dev nD) (t : Fin cfg1.N) (r : Fin 512) (m : Fin 1024) :
    (iblk1 V c 0 t : FVec Ideal S512x1024 .bf16) (ix2 r m) = V c main_v6_0 (ix2 (row t r) m) := by
  blk_simp [iblk1]
  refine congrArg _ ?_
  blk_ext [idx1_0, row]

/-- The keys are read whole. -/
theorem iblk1_1 (c : Dev nD) (t : Fin cfg1.N) (j : Fin 2048) (m : Fin 1024) :
    (iblk1 V c 1 t : FVec Ideal S2048x1024 .bf16) (ix2 j m) = V c main_v6_1 (ix2 j m) := by
  blk_simp [iblk1]
  refine congrArg _ ?_
  blk_ext [idx1_1]

/-- The values are read whole. -/
theorem iblk1_2 (c : Dev nD) (t : Fin cfg1.N) (j : Fin 2048) (m : Fin 1024) :
    (iblk1 V c 2 t : FVec Ideal S2048x1024 .bf16) (ix2 j m) = V c main_v6_2 (ix2 j m) := by
  blk_simp [iblk1]
  refine congrArg _ ?_
  blk_ext [idx1_2]

/-- The output weights are read whole. -/
theorem iblk1_3 (c : Dev nD) (t : Fin cfg1.N) (j : Fin 1024) (m : Fin 1024) :
    (iblk1 V c 3 t : FVec Ideal S1024x1024 .f32) (ix2 j m) = V c main_arg9 (ix2 j m) := by
  blk_simp [iblk1]
  refine congrArg _ ?_
  blk_ext [idx1_3]

/-- The output bias is read whole. -/
theorem iblk1_4 (c : Dev nD) (t : Fin cfg1.N) (m : Fin 1024) :
    (iblk1 V c 4 t : FVec Ideal S1x1024 .f32) (ix2 0 m) = V c main_v7 (ix2 0 m) := by
  blk_simp [iblk1]
  refine congrArg _ ?_
  blk_ext [idx1_4]

/-- An index of output block `t` lies in row `512 t + r` of the array. -/
theorem emb1_5 (t : Fin cfg1.N) (r : Fin 512) (m : Fin 1024) :
    (win1_5.blk t).view.emb (ix2 r m) = ix2 (row t r) m := by
  blk_ext [idx1_5, row]

/-- After the second grid the output array is the projected attention of the queries, keys and values. -/
theorem arr1_5 (c : Dev nD) :
    (dat1 (F := Ideal) V c).arrAt 5 cfg1.N =
      attnArr (V c main_v6_0) (V c main_v6_1) (V c main_v6_2) (V c main_arg9) (V c main_v7) := by
  refine (dat1 (F := Ideal) V c).arrAt_eq_of_covers 5 _ (by decide +kernel) fun t hf y => ?_
  blk_simp
  rw [after1_5]
  obtain ⟨r, n, rfl⟩ : ∃ (r : Fin 512) (n : Fin 1024), y = ix2 r n := ⟨y 0, y 1, eq_ix2 y⟩
  refine (outs_apply V c t r n).trans (Eq.trans ?_ (congrArg _ (emb1_5 t r n)).symm)
  simp only [iblk1_0, iblk1_1, iblk1_2, iblk1_3, iblk1_4]
  rfl

end Cert.KernelIdeal.Attn

end
-- ==== Proof.Result.lean ====
/-
  What the kernel's program leaves in its result array, as a formula over the launch's arguments. The program reshapes
  the inputs and the biases, runs the first grid, reshapes the output bias, runs the second grid, and gives the output
  a leading axis of extent one.
-/
module
public import proofs.«01_k».proof.Proof.Arrays
public import Idealize.ShloMosaic.Lib.StableHlo.ReadAt
@[expose] public section

noncomputable section

namespace Cert.KernelIdeal.Attn
open Idealize.ShloMosaic Idealize.ShloMosaic.TcCoe Idealize.SL Idealize.SL.Sem
open Cert.KernelIdeal Cert.KernelIdeal.Gen Cert.KernelIdeal.Facts Cert.Attn

variable (m : (ℓ : Loc nD τ sig) → Buf (Elt Ideal) ℓ) (ρ : Dev nD → PrngReg) (c : Dev nD)

/-- The first grid finds the query input with its leading axis dropped. -/
theorem V1_v0 (i : Fin 2048) (k : Fin 1024) :
    V1 (F := Ideal) m ρ c main_v0 (ix2 i k) = m ((c : Thread nD τ).loc main_arg0) (ix3 0 i k) := by
  show StableHlo.after hostOps0 (W0 m ρ c) (Proc.devRef .tc main_v0) (ix2 i k) = _
  after_reads_at

/-- The first grid finds the key input with its leading axis dropped. -/
theorem V1_v1 (i : Fin 2048) (k : Fin 1024) :
    V1 (F := Ideal) m ρ c main_v1 (ix2 i k) = m ((c : Thread nD τ).loc main_arg1) (ix3 0 i k) := by
  show StableHlo.after hostOps0 (W0 m ρ c) (Proc.devRef .tc main_v1) (ix2 i k) = _
  after_reads_at

/-- The first grid finds the value input with its leading axis dropped. -/
theorem V1_v2 (i : Fin 2048) (k : Fin 1024) :
    V1 (F := Ideal) m ρ c main_v2 (ix2 i k) = m ((c : Thread nD τ).loc main_arg2) (ix3 0 i k) := by
  show StableHlo.after hostOps0 (W0 m ρ c) (Proc.devRef .tc main_v2) (ix2 i k) = _
  after_reads_at

/-- The first grid finds the query bias as one row. -/
theorem V1_v3 (k : Fin 1024) :
    V1 (F := Ideal) m ρ c main_v3 (ix2 0 k) = m ((c : Thread nD τ).loc main_arg4) (ix1 k) := by
  show StableHlo.after hostOps0 (W0 m ρ c) (Proc.devRef .tc main_v3) (ix2 0 k) = _
  after_reads_at

/-- The first grid finds the key bias as one row. -/
theorem V1_v4 (k : Fin 1024) :
    V1 (F := Ideal) m ρ c main_v4 (ix2 0 k) = m ((c : Thread nD τ).loc main_arg6) (ix1 k) := by
  show StableHlo.after hostOps0 (W0 m ρ c) (Proc.devRef .tc main_v4) (ix2 0 k) = _
  after_reads_at

/-- The first grid finds the value bias as one row. -/
theorem V1_v5 (k : Fin 1024) :
    V1 (F := Ideal) m ρ c main_v5 (ix2 0 k) = m ((c : Thread nD τ).loc main_arg8) (ix1 k) := by
  show StableHlo.after hostOps0 (W0 m ρ c) (Proc.devRef .tc main_v5) (ix2 0 k) = _
  after_reads_at

/-- The first grid finds the query weights as launched. -/
theorem V1_arg3 : V1 (F := Ideal) m ρ c main_arg3 = m ((c : Thread nD τ).loc main_arg3) :=
  W1_args m ρ c main_arg3 (by decide)

/-- The first grid finds the key weights as launched. -/
theorem V1_arg5 : V1 (F := Ideal) m ρ c main_arg5 = m ((c : Thread nD τ).loc main_arg5) :=
  W1_args m ρ c main_arg5 (by decide)

/-- The first grid finds the value weights as launched. -/
theorem V1_arg7 : V1 (F := Ideal) m ρ c main_arg7 = m ((c : Thread nD τ).loc main_arg7) :=
  W1_args m ρ c main_arg7 (by decide)

/-- An argument array as a function of its row and column. -/
abbrev rows (x : FVec Ideal S1x2048x1024 .f32) : Fin 2048 → Fin 1024 → EReal := fun i k => x (ix3 0 i k)
/-- A weight array as a function of its row and column. -/
abbrev mat (w : FVec Ideal S1024x1024 .f32) : Fin 1024 → Fin 1024 → EReal := fun k n => w (ix2 k n)
/-- A bias array as a function of its column. -/
abbrev vec (b : FVec Ideal S1024 .f32) : Fin 1024 → EReal := fun n => b (ix1 n)

/-- The second grid finds the projected query array. -/
theorem V3_v6_0 (i : Fin 2048) (n : Fin 1024) :
    V3 (F := Ideal) m ρ c main_v6_0 (ix2 i n) =
      proj (rows (m ((c : Thread nD τ).loc main_arg0))) (mat (m ((c : Thread nD τ).loc main_arg3)))
        (vec (m ((c : Thread nD τ).loc main_arg4))) i n := by
  have h : V3 (F := Ideal) m ρ c main_v6_0 =
      projArr (V1 m ρ c main_v0) (V1 m ρ c main_arg3) (V1 m ρ c main_v3) :=
    (W3_of m ρ c main_v6_0 (by decide)).trans ((W2_arr m ρ c 9).trans (arr0_9 (V1 m ρ) c))
  rw [h]
  exact affine_congr n (fun k => V1_v0 m ρ c i k) (fun k n => congrFun (V1_arg3 m ρ c) (ix2 k n)) (fun n => V1_v3 m ρ c n)

/-- The second grid finds the projected key array. -/
theorem V3_v6_1 (i : Fin 2048) (n : Fin 1024) :
    V3 (F := Ideal) m ρ c main_v6_1 (ix2 i n) =
      proj (rows (m ((c : Thread nD τ).loc main_arg1))) (mat (m ((c : Thread nD τ).loc main_arg5)))
        (vec (m ((c : Thread nD τ).loc main_arg6))) i n := by
  have h : V3 (F := Ideal) m ρ c main_v6_1 =
      projArr (V1 m ρ c main_v1) (V1 m ρ c main_arg5) (V1 m ρ c main_v4) :=
    (W3_of m ρ c main_v6_1 (by decide)).trans ((W2_arr m ρ c 10).trans (arr0_10 (V1 m ρ) c))
  rw [h]
  exact affine_congr n (fun k => V1_v1 m ρ c i k) (fun k n => congrFun (V1_arg5 m ρ c) (ix2 k n)) (fun n => V1_v4 m ρ c n)

/-- The second grid finds the projected value array. -/
theorem V3_v6_2 (i : Fin 2048) (n : Fin 1024) :
    V3 (F := Ideal) m ρ c main_v6_2 (ix2 i n) =
      proj (rows (m ((c : Thread nD τ).loc main_arg2))) (mat (m ((c : Thread nD τ).loc main_arg7)))
        (vec (m ((c : Thread nD τ).loc main_arg8))) i n := by
  have h : V3 (F := Ideal) m ρ c main_v6_2 =
      projArr (V1 m ρ c main_v2) (V1 m ρ c main_arg7) (V1 m ρ c main_v5) :=
    (W3_of m ρ c main_v6_2 (by decide)).trans ((W2_arr m ρ c 11).trans (arr0_11 (V1 m ρ) c))
  rw [h]
  exact affine_congr n (fun k => V1_v2 m ρ c i k) (fun k n => congrFun (V1_arg7 m ρ c) (ix2 k n)) (fun n => V1_v5 m ρ c n)

/-- The second grid finds the output bias as one row. -/
theorem V3_v7 (k : Fin 1024) :
    V3 (F := Ideal) m ρ c main_v7 (ix2 0 k) = m ((c : Thread nD τ).loc main_arg10) (ix1 k) := by
  have h : V3 (F := Ideal) m ρ c main_v7 (ix2 0 k) = W2 (F := Ideal) m ρ c (Proc.devRef .tc main_arg10) (ix1 k) := by
    show StableHlo.after hostOps1 (W2 m ρ c) (Proc.devRef .tc main_v7) (ix2 0 k) = _
    after_reads_at
  rw [h, W2_args m ρ c main_arg10 (by decide)]

/-- The second grid finds the output weights as launched. -/
theorem V3_arg9 : V3 (F := Ideal) m ρ c main_arg9 = m ((c : Thread nD τ).loc main_arg9) :=
  W3_args m ρ c main_arg9 (by decide)

/-- The result array is the second grid's output under a leading axis of extent one. -/
theorem W5_v9 (i : Fin 2048) (n : Fin 1024) :
    W5 (F := Ideal) m ρ c (Proc.devRef .tc main_v9) (ix3 0 i n) = W4 (F := Ideal) m ρ c (Proc.devRef .tc main_v8) (ix2 i n) := by
  show StableHlo.after hostOps2 (W4 m ρ c) (Proc.devRef .tc main_v9) (ix3 0 i n) = _
  after_reads_at

/-- The result of the kernel's program at row `i` and column `n`: its multi-head attention of the launch's
    arguments. -/
theorem kernel_result (i : Fin 2048) (n : Fin 1024) :
    W5 (F := Ideal) m ρ c (Proc.devRef .tc main_v9) (ix3 0 i n) =
      mhaKernel (rows (m ((c : Thread nD τ).loc main_arg0))) (rows (m ((c : Thread nD τ).loc main_arg1)))
        (rows (m ((c : Thread nD τ).loc main_arg2)))
        (mat (m ((c : Thread nD τ).loc main_arg3))) (vec (m ((c : Thread nD τ).loc main_arg4)))
        (mat (m ((c : Thread nD τ).loc main_arg5))) (vec (m ((c : Thread nD τ).loc main_arg6)))
        (mat (m ((c : Thread nD τ).loc main_arg7))) (vec (m ((c : Thread nD τ).loc main_arg8)))
        (mat (m ((c : Thread nD τ).loc main_arg9))) (vec (m ((c : Thread nD τ).loc main_arg10))) i n := by
  have h : W4 (F := Ideal) m ρ c (Proc.devRef .tc main_v8) =
      attnArr (V3 m ρ c main_v6_0) (V3 m ρ c main_v6_1) (V3 m ρ c main_v6_2) (V3 m ρ c main_arg9) (V3 m ρ c main_v7) :=
    (W4_arr m ρ c 5).trans (arr1_5 (V3 m ρ) c)
  rw [W5_v9, h]
  exact affine_congr n
    (fun col => attnKernel_congr col (fun k => V3_v6_0 m ρ c i k) (fun j k => V3_v6_1 m ρ c j k) (fun j k => V3_v6_2 m ρ c j k))
    (fun k n => congrFun (V3_arg9 m ρ c) (ix2 k n)) (fun n => V3_v7 m ρ c n)

end Cert.KernelIdeal.Attn

end
-- ==== Proof.KernelRun.lean ====
/-
  Every execution of the kernel's program ends with each buffer at the contents the program's fold through its
  stretches and grids computes, the result array among them.
-/
module
public import proofs.«01_k».proof.Proof.Gen.KernelIdeal.Frame
@[expose] public section

noncomputable section

namespace Cert.KernelIdeal.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every execution ends, and ends with every buffer that outlives the run at its
    contents after the last stretch. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The result array and the arguments at the end of the run: the result at its contents after the last stretch, the
    arguments as launched. -/
theorem run_result : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ ∀ a ∈ argRefs, r.2.mem ((c.tc : Thread nD τ).loc a) = m ((c.tc : Thread nD τ).loc a)) :=
  (θ_run defs _ _).mono (fun _ h c => ⟨h c _ (mem_uc main_v9 (by decide)), fun a ha =>
    (h c _ (mem_uc a (by revert a; decide))).trans (W5_args m ρ c a ha)⟩) (run_all m ρ)

end Cert.KernelIdeal.Attn

end
-- ==== Proof.Ref.lean ====
/-
  The reference's result read stage by stage: the three projections, the heads cut out of them, the scores, the
  softmax weights, the averages, the heads put side by side, and the output projection.
-/
module
public import proofs.«01_k».proof.Proof.Math
public import proofs.«01_k».proof.Proof.Gen.ReferenceIdeal.Read
public import Idealize.ShloMosaic.Lib.Pointwise
@[expose] public section

noncomputable section

namespace Cert.ReferenceIdeal.Attn
open Idealize.ShloMosaic Idealize.ShloMosaic.TcCoe
open Cert.ReferenceIdeal Cert.ReferenceIdeal.Gen Cert.ReferenceIdeal.Read Cert.Attn

/-- An argument array as a function of its row and column. -/
abbrev rows (x : FVec Ideal S1x2048x1024 .f32) : Fin 2048 → Fin 1024 → EReal := fun i k => x (ix3 0 i k)
/-- A weight array as a function of its row and column. -/
abbrev mat (w : FVec Ideal S1024x1024 .f32) : Fin 1024 → Fin 1024 → EReal := fun k n => w (ix2 k n)
/-- A bias array as a function of its column. -/
abbrev vec (b : FVec Ideal S1024 .f32) : Fin 1024 → EReal := fun n => b (ix1 n)

/-- Column `e` of head `h`. -/
def col (h : Fin 16) (e : Fin 64) : Fin 1024 := ⟨h.val * 64 + e.val, by omega⟩

variable (x0 x1 x2 : FVec Ideal S1x2048x1024 .f32) (x3 x5 x7 x9 : FVec Ideal S1024x1024 .f32)
  (x4 x6 x8 x10 : FVec Ideal S1024 .f32)

/-- The query projection. -/
theorem v3_apply (i : Fin 2048) (n : Fin 1024) :
    val_main_v3 (F := Ideal) x0 x3 x4 (ix3 0 i n) = proj (rows x0) (mat x3) (vec x4) i n := by
  pointwise [val_main_v3, val_main_v0, val_main_v2, val_main_v1]
  rfl

/-- The key projection. -/
theorem v9_apply (i : Fin 2048) (n : Fin 1024) :
    val_main_v9 (F := Ideal) x1 x5 x6 (ix3 0 i n) = proj (rows x1) (mat x5) (vec x6) i n := by
  pointwise [val_main_v9, val_main_v6, val_main_v8, val_main_v7]
  rfl

/-- The value projection. -/
theorem v15_apply (i : Fin 2048) (n : Fin 1024) :
    val_main_v15 (F := Ideal) x2 x7 x8 (ix3 0 i n) = proj (rows x2) (mat x7) (vec x8) i n := by
  pointwise [val_main_v15, val_main_v12, val_main_v14, val_main_v13]
  rfl

/-- Head `h` of the queries is their columns `64 h` to `64 h + 63`. -/
theorem v18_apply (h : Fin 16) (i : Fin 2048) (e : Fin 64) :
    val_main_v18 (F := Ideal) x0 x3 x4 (ix3 h i e) = val_main_v3 (F := Ideal) x0 x3 x4 (ix3 0 i (col h e)) := by
  unfold val_main_v18 val_main_v5 val_main_v4
  generalize val_main_v3 (F := Ideal) x0 x3 x4 = y
  pointwise
  rfl

/-- Head `h` of the keys, transposed. -/
theorem v19_apply (h : Fin 16) (e : Fin 64) (j : Fin 2048) :
    val_main_v19 (F := Ideal) x1 x5 x6 (ix3 h e j) = val_main_v9 (F := Ideal) x1 x5 x6 (ix3 0 j (col h e)) := by
  unfold val_main_v19 val_main_v11 val_main_v10
  generalize val_main_v9 (F := Ideal) x1 x5 x6 = y
  pointwise
  rfl

/-- Head `h` of the values. -/
theorem v36_apply (h : Fin 16) (j : Fin 2048) (e : Fin 64) :
    val_main_v36 (F := Ideal) x2 x7 x8 (ix3 h j e) = val_main_v15 (F := Ideal) x2 x7 x8 (ix3 0 j (col h e)) := by
  unfold val_main_v36 val_main_v17 val_main_v16
  generalize val_main_v15 (F := Ideal) x2 x7 x8 = y
  pointwise
  rfl

/-- The scores of head `h`: query row times key row. -/
theorem v20_apply (h : Fin 16) (i j : Fin 2048) :
    val_main_v20 (F := Ideal) x0 x1 x3 x4 x5 x6 (ix3 h i j) =
      ∑ e, val_main_v18 (F := Ideal) x0 x3 x4 (ix3 h i e) * val_main_v19 (F := Ideal) x1 x5 x6 (ix3 h e j) := by
  unfold val_main_v20
  generalize val_main_v18 (F := Ideal) x0 x3 x4 = y
  generalize val_main_v19 (F := Ideal) x1 x5 x6 = z
  pointwise

/-- The scale is one eighth. -/
theorem eighth_bits : Ideal.ofBits .f32 0x3E000000#32 = ((1/8 : ℝ) : EReal) := by
  simp [Ideal.ofBits, Ideal.ieee, -EReal.coe_mul]
  norm_num

/-- The maximum starts at minus infinity. -/
theorem bot_bits : Ideal.ofBits .f32 0xFF800000#32 = (⊥ : EReal) := by
  simp [Ideal.ofBits, Ideal.ieee]

/-- The scaled scores. -/
theorem v23_apply (h : Fin 16) (i j : Fin 2048) :
    val_main_v23 (F := Ideal) x0 x1 x3 x4 x5 x6 (ix4 0 h i j) =
      val_main_v20 (F := Ideal) x0 x1 x3 x4 x5 x6 (ix3 h i j) * ((1/8 : ℝ) : EReal) := by
  rw [← eighth_bits]
  unfold val_main_v23 val_main_v22 val_main_v21 val_main_cst
  generalize val_main_v20 (F := Ideal) x0 x1 x3 x4 x5 x6 = y
  pointwise

/-- The maximum over the last axis of an array, from minus infinity, is the maximum of its entries along that axis. -/
theorem maxLast_apply (y : FVec Ideal S1x16x2048x2048 .f32) (h : Fin 16) (i : Fin 2048) :
    Host.reduce FloatOps.maximumf y (val_main_cst_0 (F := Ideal)) reducesTo_S1x16x2048x2048_S1x16x2048_d3 h_S_ (ix3 0 h i) =
      Finset.univ.fold max (⊥ : EReal) fun j : Fin 2048 => y (ix4 0 h i j) := by
  rw [Host.reduce_eq_fold_single FloatOps.maximumf y _ reducesTo_S1x16x2048x2048_S1x16x2048_d3 (by decide) h_S_]
  rw [← bot_bits]
  refine congrArg (fun f => Finset.fold max (Ideal.ofBits .f32 0xFF800000#32) f (Finset.univ : Finset (Fin 2048)))
    (funext fun j => congrArg y (funext fun a => Fin.ext ?_))
  match a with
  | ⟨0, _⟩ => rfl
  | ⟨1, _⟩ => rfl
  | ⟨2, _⟩ => rfl
  | ⟨3, _⟩ => rfl

/-- The shift of row `i` in head `h`: the maximum of its scaled scores. -/
theorem v26_apply (h : Fin 16) (i : Fin 2048) :
    val_main_v26 (F := Ideal) x0 x1 x3 x4 x5 x6 (ix3 0 h i) =
      max ⊥ (Finset.univ.fold max (⊥ : EReal) fun j => val_main_v23 (F := Ideal) x0 x1 x3 x4 x5 x6 (ix4 0 h i j)) := by
  rw [val_main_v26_apply, val_main_v25_apply, val_main_cst_1_apply]
  unfold val_main_v24
  generalize val_main_v23 (F := Ideal) x0 x1 x3 x4 x5 x6 = y
  rw [maxLast_apply y h i, ← bot_bits]
  rfl

/-- The exponentials of the shifted scores. -/
theorem v30_apply (h : Fin 16) (i j : Fin 2048) :
    val_main_v30 (F := Ideal) x0 x1 x3 x4 x5 x6 (ix4 0 h i j) =
      Ideal.exp (val_main_v23 (F := Ideal) x0 x1 x3 x4 x5 x6 (ix4 0 h i j)
        - val_main_v26 (F := Ideal) x0 x1 x3 x4 x5 x6 (ix3 0 h i)) := by
  unfold val_main_v30 val_main_v29 val_main_v28 val_main_v27
  generalize val_main_v23 (F := Ideal) x0 x1 x3 x4 x5 x6 = y
  generalize val_main_v26 (F := Ideal) x0 x1 x3 x4 x5 x6 = z
  pointwise

/-- The weights: each exponential divided by its row's sum. -/
theorem v34_apply (h : Fin 16) (i j : Fin 2048) :
    val_main_v34 (F := Ideal) x0 x1 x3 x4 x5 x6 (ix4 0 h i j) =
      Ideal.div (val_main_v30 (F := Ideal) x0 x1 x3 x4 x5 x6 (ix4 0 h i j))
        (∑ j', val_main_v30 (F := Ideal) x0 x1 x3 x4 x5 x6 (ix4 0 h i j')) := by
  unfold val_main_v34 val_main_v33 val_main_v32 val_main_v31 val_main_cst_2
  generalize val_main_v30 (F := Ideal) x0 x1 x3 x4 x5 x6 = y
  pointwise

/-- The weights of head `h`. -/
theorem v35_apply (h : Fin 16) (i j : Fin 2048) :
    val_main_v35 (F := Ideal) x0 x1 x3 x4 x5 x6 (ix3 h i j) = val_main_v34 (F := Ideal) x0 x1 x3 x4 x5 x6 (ix4 0 h i j) := by
  unfold val_main_v35
  generalize val_main_v34 (F := Ideal) x0 x1 x3 x4 x5 x6 = y
  pointwise

/-- The average of head `h`'s values under its weights. -/
theorem v37_apply (h : Fin 16) (i : Fin 2048) (e : Fin 64) :
    val_main_v37 (F := Ideal) x0 x1 x2 x3 x4 x5 x6 x7 x8 (ix3 h i e) =
      ∑ j, val_main_v35 (F := Ideal) x0 x1 x3 x4 x5 x6 (ix3 h i j) * val_main_v36 (F := Ideal) x2 x7 x8 (ix3 h j e) := by
  unfold val_main_v37
  generalize val_main_v35 (F := Ideal) x0 x1 x3 x4 x5 x6 = y
  generalize val_main_v36 (F := Ideal) x2 x7 x8 = z
  pointwise

/-- The heads side by side: column `c` is entry `c % 64` of head `c / 64`. -/
theorem v40_apply (i : Fin 2048) (c : Fin 1024) :
    val_main_v40 (F := Ideal) x0 x1 x2 x3 x4 x5 x6 x7 x8 (ix3 0 i c) =
      val_main_v37 (F := Ideal) x0 x1 x2 x3 x4 x5 x6 x7 x8 (ix3 ⟨c.val / 64, by omega⟩ i ⟨c.val % 64, by omega⟩) := by
  unfold val_main_v40 val_main_v39 val_main_v38
  generalize val_main_v37 (F := Ideal) x0 x1 x2 x3 x4 x5 x6 x7 x8 = y
  pointwise

/-- The output projection. -/
theorem v44_apply (i : Fin 2048) (n : Fin 1024) :
    val_main_v44 (F := Ideal) x0 x1 x2 x3 x4 x5 x6 x7 x8 x9 x10 (ix3 0 i n) =
      affine (fun k => val_main_v40 (F := Ideal) x0 x1 x2 x3 x4 x5 x6 x7 x8 (ix3 0 i k)) (mat x9) (vec x10) n := by
  refine Eq.trans ?_ (v3_apply (val_main_v40 (F := Ideal) x0 x1 x2 x3 x4 x5 x6 x7 x8) x9 x10 i n)
  unfold val_main_v44 val_main_v41 val_main_v43 val_main_v42 val_main_v3 val_main_v0 val_main_v2 val_main_v1
  rfl

/-- The scaled scores of the head of column `c` are the scores of that column times one eighth. -/
theorem scores_apply (c : Fin 1024) (i j : Fin 2048) :
    val_main_v23 (F := Ideal) x0 x1 x3 x4 x5 x6 (ix4 0 ⟨c.val / 64, by omega⟩ i j) =
      score (proj (rows x0) (mat x3) (vec x4) i) (proj (rows x1) (mat x5) (vec x6)) c j * ((1/8 : ℝ) : EReal) := by
  rw [v23_apply, v20_apply]
  refine congrArg (· * ((1/8 : ℝ) : EReal)) (Finset.sum_congr rfl fun e _ => ?_)
  rw [v18_apply, v19_apply, v3_apply, v9_apply]
  rfl

/-- The exponentials of the head of column `c`. -/
theorem exps_apply (c : Fin 1024) (i j : Fin 2048) :
    val_main_v30 (F := Ideal) x0 x1 x3 x4 x5 x6 (ix4 0 ⟨c.val / 64, by omega⟩ i j) =
      rowExp (score (proj (rows x0) (mat x3) (vec x4) i) (proj (rows x1) (mat x5) (vec x6)) c) j := by
  rw [v30_apply, v26_apply]
  simp only [scores_apply]
  rfl

/-- The heads side by side are the attention of each row. -/
theorem heads_apply (c : Fin 1024) (i : Fin 2048) :
    val_main_v40 (F := Ideal) x0 x1 x2 x3 x4 x5 x6 x7 x8 (ix3 0 i c) =
      attnReference (proj (rows x0) (mat x3) (vec x4) i) (proj (rows x1) (mat x5) (vec x6)) (proj (rows x2) (mat x7) (vec x8)) c := by
  rw [v40_apply, v37_apply]
  unfold attnReference avgReference
  refine Finset.sum_congr rfl fun j _ => ?_
  rw [v35_apply, v34_apply, v36_apply, v15_apply]
  simp only [exps_apply]
  refine congrArg (_ * ·) (congrArg _ (Fin.ext ?_))
  show c.val / 64 * 64 + c.val % 64 = c.val
  omega

/-- The reference's result at row `i` and column `n`: its multi-head attention of the arguments. -/
theorem reference_apply (i : Fin 2048) (n : Fin 1024) :
    val_main_v44 (F := Ideal) x0 x1 x2 x3 x4 x5 x6 x7 x8 x9 x10 (ix3 0 i n) =
      mhaReference (rows x0) (rows x1) (rows x2) (mat x3) (vec x4) (mat x5) (vec x6) (mat x7) (vec x8) (mat x9) (vec x10) i n := by
  rw [v44_apply]
  exact affine_congr n (fun c => heads_apply x0 x1 x2 x3 x5 x7 x4 x6 x8 c i) (fun _ _ => rfl) fun _ => rfl

end Cert.ReferenceIdeal.Attn

end
-- ==== Proof.Pre.lean ====
/-
  What the precondition gives: the queries, the keys and the weights and biases of their projections are finite.
-/
module
public import proofs.«01_k».proof.Defs
public import proofs.«01_k».proof.Proof.Math
public import proofs.«01_k».proof.Proof.Result
public import proofs.«01_k».proof.Proof.Gen.Pre_finite_scores
@[expose] public section

noncomputable section

namespace Cert.KernelIdeal.Attn
open Idealize.ShloMosaic Idealize.ShloMosaic.TcCoe Idealize.SL Idealize.SL.Sem
open Cert.KernelIdeal Cert.KernelIdeal.Gen Cert.Attn

/-- The bound of the precondition is plus infinity. -/
theorem top_bits : Ideal.ofBits .f32 0x7F800000#32 = (⊤ : EReal) := by
  simp [Ideal.ofBits, Ideal.ieee]

/-- A number whose absolute value compares below plus infinity is finite. -/
theorem finite_of_abs (x : EReal) (h : Ideal.cmp .olt (max x (-x)) (Ideal.ofBits .f32 0x7F800000#32) = 1#1) : Finite x := by
  rw [top_bits] at h
  induction x using EReal.rec with
  | bot => simp [Ideal.cmp] at h
  | top => simp [Ideal.cmp] at h
  | coe r => exact ⟨r, rfl⟩

variable (m : (ℓ : Loc nD τ sig) → Buf (Elt Ideal) ℓ) (c : Dev nD)

/-- Under the precondition every query, key, and weight and bias of their projections is finite. -/
theorem finite_of_pre (h : Pre_KernelIdeal_finite_scores m) :
    (∀ i k, Finite (rows (m ((c : Thread nD τ).loc main_arg0)) i k)) ∧
    (∀ i k, Finite (rows (m ((c : Thread nD τ).loc main_arg1)) i k)) ∧
    (∀ k n, Finite (mat (m ((c : Thread nD τ).loc main_arg3)) k n)) ∧
    (∀ n, Finite (vec (m ((c : Thread nD τ).loc main_arg4)) n)) ∧
    (∀ k n, Finite (mat (m ((c : Thread nD τ).loc main_arg5)) k n)) ∧
    (∀ n, Finite (vec (m ((c : Thread nD τ).loc main_arg6)) n)) := by
  obtain ⟨h0, h1, h3, h4, h5, h6⟩ := h c
  exact ⟨fun i k => finite_of_abs _ (congrFun h0 (ix3 0 i k)), fun i k => finite_of_abs _ (congrFun h1 (ix3 0 i k)),
    fun k n => finite_of_abs _ (congrFun h3 (ix2 k n)), fun n => finite_of_abs _ (congrFun h4 (ix1 n)),
    fun k n => finite_of_abs _ (congrFun h5 (ix2 k n)), fun n => finite_of_abs _ (congrFun h6 (ix1 n))⟩

end Cert.KernelIdeal.Attn

end
-- ==== Proof.lean ====
/-
  The certificate: the kernel and its idealized form run and leave their arguments and counters as they found them, the
  reference too; the idealized form is the kernel with its one rounded constant named; and over the extended reals the
  kernel's result is the reference's at every index whenever the queries, the keys and the weights and biases of their
  projections are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Result
public import proofs.«01_k».proof.Proof.KernelRun
public import proofs.«01_k».proof.Proof.Ref
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as launched, and leaves every counter at zero: it has none. -/
theorem reference_frame : quiescent_ReferenceIdeal := fun m g _ =>
  (θ_run _ _ _).mono (fun r h => ⟨fun c => (h c).2, sem_eq_zero_of_no_sems rfl r.2⟩) (Cert.ReferenceIdeal.Value.run m g)

/-- At finite queries, keys and projections the kernel's result array is the reference's. -/
theorem results_agree (m : (ℓ : Loc Cert.KernelIdeal.nD Cert.KernelIdeal.τ Cert.KernelIdeal.sig) → Buf (Elt Ideal) ℓ)
    (g : Dev Cert.KernelIdeal.nD → PrngReg) (h : Pre_KernelIdeal_finite_scores m) (c : Dev Cert.KernelIdeal.nD) :
    Cert.ReferenceIdeal.Read.val_main_v44 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
    = Cert.KernelIdeal.Gen.W5 (F := Ideal) m g c (Proc.devRef .tc Cert.KernelIdeal.main_v9) := by
  funext x
  obtain ⟨i, n, rfl⟩ : ∃ (i : Fin 2048) (n : Fin 1024), x = ix3 0 i n :=
    ⟨x 1, x 2, (eq_ix3 x).trans (congrArg (fun z : Fin 1 => (ix3 z (x 1) (x 2) : Cert.KernelIdeal.S1x2048x1024.Idx)) (Subsingleton.elim (α := Fin 1) (x 0) 0))⟩
  obtain ⟨hQ, hK, hwq, hbq, hwk, hbk⟩ := Cert.KernelIdeal.Attn.finite_of_pre m c h
  refine (Cert.ReferenceIdeal.Attn.reference_apply _ _ _ _ _ _ _ _ _ _ _ i n).trans ?_
  exact (Cert.Attn.mha_eq hQ hK hwq hbq hwk hbk i n).symm.trans (Cert.KernelIdeal.Attn.kernel_result m g c i n).symm

/-- The value claim: from memories that agree on the arguments, under the precondition, both programs run and end with
    equal results and with their arguments as launched. -/
theorem value : algebraic_KernelIdeal_ReferenceIdeal_pre_finite_scores := fun m g m' g' hpre hargs => by
  refine ⟨fun c => Cert.KernelIdeal.Gen.W5 (F := Ideal) m g c (Proc.devRef .tc Cert.KernelIdeal.main_v9), ?_, ?_⟩
  · refine (θ_run _ _ _).mono (fun r h c => ?_) (Cert.KernelIdeal.Attn.run_result (F := Ideal) m g)
    obtain ⟨hv, ha⟩ := h c
    exact ⟨hv, ha _ (by decide), ha _ (by decide), ha _ (by decide), ha _ (by decide), ha _ (by decide), ha _ (by decide),
      ha _ (by decide), ha _ (by decide), ha _ (by decide), ha _ (by decide), ha _ (by decide)⟩
  · refine (θ_run _ _ _).mono (fun r h c => ⟨(h c).1.trans ?_, (h c).2⟩) (Cert.ReferenceIdeal.Value.run (F := Ideal) m' g')
    obtain ⟨h0, h1, h2, h3, h4, h5, h6, h7, h8, h9, h10⟩ := hargs c
    rw [Cert.ReferenceIdeal.Read.val_main_v44_eq]
    refine Eq.trans ?_ (results_agree m g hpre c)
    rw [h0, h1, h2, h3, h4, h5, h6, h7, h8, h9, h10]

/-- Everything claimed. -/
theorem claim : Cert.Claim :=
  ⟨Cert.Kernel.Gen.facts, Cert.KernelIdeal.Gen.facts, Cert.ReferenceIdeal.Gen.facts, Cert.Pre_finite_scores.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    IdealRules.named_const.statement Cert.KernelIdeal.κ "exp_scale" .f32 0x3E38AA3B#32 _ rfl,
    value⟩

end Cert.Proof

end
